-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S128x8192 : Shape := ⟨2, ![128, 8192]⟩
abbrev S256x8 : Shape := ⟨2, ![256, 8]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel

variable [Facts]

def fn {F : FTy → Type} [FloatOps F] (main_arg0 : IVec S128x8192 32) (main_arg1 : FVec F S256x8 .f32) : IVec S_ 1 :=
  let main_c : IVec S_ 32 := constantI S_ 32 0#32
  let main_v0 : IVec S128x8192 32 := broadcastInDim S128x8192 ![] bcast_S_S128x8192 main_c
  let main_v1 : IVec S128x8192 1 := cmpi .sge main_arg0 main_v0
  let main_c_0 : IVec S_ 32 := constantI S_ 32 256#32
  let main_v2 : IVec S128x8192 32 := broadcastInDim S128x8192 ![] bcast_S_S128x8192 main_c_0
  let main_v3 : IVec S128x8192 1 := cmpi .slt main_arg0 main_v2
  let main_v4 : IVec S128x8192 1 := andi main_v1 main_v3
  let main_c_1 : IVec S_ 1 := constantI S_ 1 1#1
  let main_v5 : IVec S_ 1 := (fun x v => Host.reduce IntOp.andi x v reducesTo_S128x8192_S_d0_1 h_S_) main_v4 main_c_1
  main_v5
-- ==== Kernel.lean ====
abbrev S128x8192 : Shape := ⟨2, ![128, 8192]⟩
abbrev S256x8 : Shape := ⟨2, ![256, 8]⟩
abbrev S1048576 : Shape := ⟨1, ![1048576]⟩
abbrev S2048 : Shape := ⟨1, ![2048]⟩
abbrev S8388608 : Shape := ⟨1, ![8388608]⟩
abbrev S4096 : Shape := ⟨1, ![4096]⟩
abbrev S32768 : Shape := ⟨1, ![32768]⟩
abbrev S_ : Shape := ⟨0, ![]⟩
abbrev S16 : Shape := ⟨1, ![16]⟩
abbrev S128x8192x2x4 : Shape := ⟨4, ![128, 8192, 2, 4]⟩

abbrev nBuf : Table → Nat
  | .hbm => 6
  | .local .scVector .vmem => 3
  | _ => 0

abbrev bufTy : (tb : Table) → Fin (nBuf tb) → BufTy
  | .hbm, ⟨0, _⟩ => ⟨S128x8192, .i32⟩
  | .hbm, ⟨1, _⟩ => ⟨S256x8, .f32⟩
  | .hbm, ⟨2, _⟩ => ⟨S1048576, .i32⟩
  | .hbm, ⟨3, _⟩ => ⟨S2048, .f32⟩
  | .hbm, ⟨4, _⟩ => ⟨S8388608, .f32⟩
  | .hbm, ⟨5, _⟩ => ⟨S128x8192x2x4, .f32⟩
  | .local .scVector .vmem, ⟨0, _⟩ => ⟨S2048, .f32⟩
  | .local .scVector .vmem, ⟨1, _⟩ => ⟨S4096, .i32⟩
  | .local .scVector .vmem, ⟨2, _⟩ => ⟨S32768, .f32⟩
  | _, _ => ⟨S128x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v8 : BitVec 32 := Scalar.addi c0_i32_0 c8_i32
  let c1_i32 : BitVec 32 := 1#32
  ⟨c0_i32_0, v8, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_0 : BitVec 32 := 0#32
  let c1_i32 : BitVec 32 := 1#32
  let arg8 : BitVec 32 := Scf.iv c0_i32_0 c1_i32 k0_t1
  let c4096_i32 : BitVec 32 := 4096#32
  let v9 : BitVec 32 := Scalar.muli arg8 c4096_i32
  let v10 : BitVec 32 := Scalar.addi v2 v9
  ![v10.toNat]
@[reducible] def k0_t2_loop : Scf.Loop 32 :=
  let c0_i32_3 : BitVec 32 := 0#32
  let c2048_i32 : BitVec 32 := 2048#32
  let v11 : BitVec 32 := Scalar.addi c0_i32_3 c2048_i32
  let c1_i32_4 : BitVec 32 := 1#32
  ⟨c0_i32_3, v11, c1_i32_4⟩

def k0_chk1 (v15 : IVec S16 32) : Prop :=
  (∀ a x, ((![v15] : Fin 1 → IVec S16 32) a x).toNat < S4096.size a)
theorem k0_idx1_inb : ∀ (v15 : IVec S16 32) (k0_hw1 : k0_chk1 v15), ∀ a x, ((![v15] : Fin 1 → IVec S16 32) a x).toNat < S4096.size a := fun v15 k0_hw1 => k0_hw1

def k0_chk2 (v19 : IVec S16 32) : Prop :=
  (∀ a x, ((![v19] : Fin 1 → IVec S16 32) a x).toNat < S2048.size a)
theorem k0_idx2_inb : ∀ (v19 : IVec S16 32) (k0_hw2 : k0_chk2 v19), ∀ a x, ((![v19] : Fin 1 → IVec S16 32) a x).toNat < S2048.size a := fun v19 k0_hw2 => k0_hw2
def k0_off2 (k0_t2 : Fin k0_t2_loop.trips) : Fin 1 → Nat :=
  let c16_i32 : BitVec 32 := 16#32
  let c0_i32_3 : BitVec 32 := 0#32
  let c1_i32_4 : BitVec 32 := 1#32
  let arg9 : BitVec 32 := Scf.iv c0_i32_3 c1_i32_4 k0_t2
  let v21 : BitVec 32 := Scalar.muli c16_i32 arg9
  let v22 : Index := Scalar.indexCast v21
  ![v22.toNat]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_0 : BitVec 32 := 0#32
  let c1_i32 : BitVec 32 := 1#32
  let arg8 : BitVec 32 := Scf.iv c0_i32_0 c1_i32 k0_t1
  let c4096_i32 : BitVec 32 := 4096#32
  let v9 : BitVec 32 := Scalar.muli arg8 c4096_i32
  let v10 : BitVec 32 := Scalar.addi v2 v9
  let c8_i32_6 : BitVec 32 := 8#32
  let v12 : BitVec 32 := Scalar.muli v10 c8_i32_6
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192 : Shape := ⟨2, ![128, 8192]⟩
abbrev S256x8 : Shape := ⟨2, ![256, 8]⟩
abbrev S_ : Shape := ⟨0, ![]⟩
abbrev S128x8192x1 : Shape := ⟨3, ![128, 8192, 1]⟩
abbrev S1 : Shape := ⟨1, ![1]⟩
abbrev S1x1x1 : Shape := ⟨3, ![1, 1, 1]⟩
abbrev S128x8192x8 : Shape := ⟨3, ![128, 8192, 8]⟩
abbrev S128x8192x2x4 : Shape := ⟨4, ![128, 8192, 2, 4]⟩

abbrev nBuf : Space → Nat
  | .hbm => 26
  | .vmem => 0
  | .smem => 0
  | _ => 0

abbrev bufTy : (tb : Table) → Fin (tcTables nBuf tb) → BufTy
  | .hbm, ⟨0, _⟩ => ⟨S128x8192, .i32⟩
  | .hbm, ⟨1, _⟩ => ⟨S256x8, .f32⟩
  | .hbm, ⟨2, _⟩ => ⟨S_, .i32⟩
  | .hbm, ⟨3, _⟩ => ⟨S128x8192, .i32⟩
  | .hbm, ⟨4, _⟩ => ⟨S128x8192, .i1⟩
  | .hbm, ⟨5, _⟩ => ⟨S_, .i32⟩
  | .hbm, ⟨6, _⟩ => ⟨S128x8192, .i32⟩
  | .hbm, ⟨7, _⟩ => ⟨S128x8192, .i32⟩
  | .hbm, ⟨8, _⟩ => ⟨S128x8192, .i32⟩
  | .hbm, ⟨9, _⟩ => ⟨S128x8192x1, .i32⟩
  | .hbm, ⟨10, _⟩ => ⟨S1, .i32⟩
  | .hbm, ⟨11, _⟩ => ⟨S_, .i32⟩
  | .hbm, ⟨12, _⟩ => ⟨S128x8192x1, .i32⟩
  | .hbm, ⟨13, _⟩ => ⟨S128x8192x1, .i1⟩
  | .hbm, ⟨14, _⟩ => ⟨S1x1x1, .i32⟩
  | .hbm, ⟨15, _⟩ => ⟨S128x8192x1, .i32⟩
  | .hbm, ⟨16, _⟩ => ⟨S128x8192x1, .i1⟩
  | .hbm, ⟨17, _⟩ => ⟨S128x8192x1, .i1⟩
  | .hbm, ⟨18, _⟩ => ⟨S_, .i1⟩
  | .hbm, ⟨19, _⟩ => ⟨S128x8192, .i1⟩
  | .hbm, ⟨20, _⟩ => ⟨S128x8192x8, .f32⟩
  | .hbm, ⟨21, _⟩ => ⟨S128x8192x8, .i1⟩
  | .hbm, ⟨22, _⟩ => ⟨S_, .f32⟩
  | .hbm, ⟨23, _⟩ => ⟨S128x8192x8, .f32⟩
  | .hbm, ⟨24, _⟩ => ⟨S128x8192x8, .f32⟩
  | .hbm, ⟨25, _⟩ => ⟨S128x8192x2x4, .f32⟩
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Words.lean ====
/-
  The lookup's pure part: which word of the indices and which word of the codebook each lane of a trip reads,
  and the value a flat output position ends at.
-/
module

public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Idealize.ShloMosaic Idealize.SL.Sem

/-- Position `n` of a flat array. -/
def pos {N : ℕ} (n : Fin N) : (⟨1, ![N]⟩ : Shape).Idx := fun a => match a with | 0 => n

/-- A flat position is determined by its one coordinate. -/
theorem pos_val {N : ℕ} (x y : (⟨1, ![N]⟩ : Shape).Idx) (h : (x 0).val = (y 0).val) : x = y := by
  funext a
  match a with
  | 0 => exact Fin.ext h

/-- The codebook word at row `w`, column `r`, in the flat codebook (the remainder only makes the position total). -/
def cbPos (w : BitVec 32) (r : ℕ) : S2048.Idx := pos ⟨(8 * w.toNat + r) % 2048, Nat.mod_lt _ (by omega)⟩

variable {F : FTy → Type}

/-- The value at position `x` of one 32768-word chunk of the output: the codebook's word at the row that chunk's index
    word `x / 8` names, column `x % 8`. -/
def chunkVal (cb : S2048.Idx → Elt F .f32) (ci : S4096.Idx → BitVec 32) (x : S32768.Idx) : Elt F .f32 :=
  cb (cbPos (ci (pos ⟨(x 0).val / 8, by have h : (x 0).val < 32768 := (x 0).isLt; omega⟩)) ((x 0).val % 8))

/-- The value at position `x` of the whole flat output, from the whole flat index array. -/
def flatVal (cb : S2048.Idx → Elt F .f32) (ix : S1048576.Idx → BitVec 32) (x : S8388608.Idx) : Elt F .f32 :=
  cb (cbPos (ix (pos ⟨(x 0).val / 8, by have h : (x 0).val < 8388608 := (x 0).isLt; omega⟩)) ((x 0).val % 8))

variable [FloatOps F]

/-- The inner loop makes at most 2048 trips. -/
theorem trip_lt (t : Fin k0_t2_loop.trips) : t.val < 2048 := Nat.lt_of_lt_of_le t.isLt k0_t2_abs.2.1

/-- Each lane's number shifted right by three is its eighth; masked with seven it is its remainder. -/
theorem lane_words (l : Fin 16) :
    (IntOp.shrsi .vector (BitVec.ofNat 32 l.val) 3#32) = BitVec.ofNat 32 (l.val / 8)
      ∧ (IntOp.andi (BitVec.ofNat 32 l.val) 7#32) = BitVec.ofNat 32 (l.val % 8) := by
  revert l; decide

/-- Lane `x` of the first index vector at trip `t` is word `2 t + x / 8` of the chunk's indices. -/
theorem pay1_toNat (t : Fin k0_t2_loop.trips) (x : S16.Idx) :
    (k0_pay1 t x).toNat = 2 * t.val + (x 0).val / 8 := by
  have hx : (x 0).val < 16 := (x 0).isLt
  have ht := trip_lt t
  have h1 := (lane_words ⟨(x 0).val, hx⟩).1
  have : k0_pay1 t x = BitVec.ofNat 32 ((x 0).val / 8) + 2#32 * (0#32 + BitVec.ofNat 32 t.val * 1#32) := by
    rw [← h1]
    simp [k0_pay1, addi, shrsi, iota, broadcast, Scalar.muli, Scf.iv, IntOp.addi, IntOp.muli]
  rw [this]
  simp only [BitVec.toNat_add, BitVec.toNat_mul, BitVec.toNat_ofNat]
  omega

/-- So the first index vector stays inside the chunk's 4096 index words. -/
theorem chk1 (t : Fin k0_t2_loop.trips) : k0_chk1 (k0_pay1 t) := by
  intro a x
  match a with
  | 0 =>
    show (k0_pay1 t x).toNat < 4096
    have hx : (x 0).val < 16 := (x 0).isLt
    have ht := trip_lt t
    rw [pay1_toNat]; omega

/-- A row number times eight, joined with a column below eight, is the flat position of that row and column. -/
theorem join_word (w : BitVec 32) (hw : w.toNat < 256) (r : ℕ) (hr : r < 8) :
    (IntOp.ori (IntOp.shli .vector w 3#32) (BitVec.ofNat 32 r)).toNat = 8 * w.toNat + r := by
  have h : IntOp.shli .vector w 3#32 = w <<< 3 := rfl
  rw [h, IntOp.ori, BitVec.toNat_or, BitVec.toNat_shiftLeft, BitVec.toNat_ofNat, Nat.mod_eq_of_lt (by omega : r < 2 ^ 32),
    Nat.mod_eq_of_lt (by rw [Nat.shiftLeft_eq]; omega), ← Nat.shiftLeft_add_eq_or_of_lt (by omega : r < 2 ^ 3), Nat.shiftLeft_eq]
  omega

/-- Lane `x` of the second index vector: row the lane's index word, column the lane's remainder. -/
theorem pay2_toNat (v : S16.Idx → BitVec 32) (hv : ∀ x, (v x).toNat < 256) (x : S16.Idx) :
    (k0_pay2 (F := F) v x).toNat = 8 * (v x).toNat + (x 0).val % 8 := by
  have hx : (x 0).val < 16 := (x 0).isLt
  have h : k0_pay2 (F := F) v x = IntOp.ori (IntOp.shli .vector (v x) 3#32) (BitVec.ofNat 32 ((x 0).val % 8)) := by
    rw [← (lane_words ⟨(x 0).val, hx⟩).2]
    simp [k0_pay2, ori, shli, andi, iota, broadcast]
  rw [h, join_word _ (hv x) _ (Nat.mod_lt _ (by omega))]

/-- So the second index vector stays inside the codebook's 2048 words, when every index word is below 256. -/
theorem chk2 (v : S16.Idx → BitVec 32) (hv : ∀ x, (v x).toNat < 256) : k0_chk2 (k0_pay2 (F := F) v) := by
  intro a x
  match a with
  | 0 =>
    show (k0_pay2 (F := F) v x).toNat < 2048
    have := hv x
    rw [pay2_toNat v hv]; omega

/-- What a trip's two gathers read, lane by lane: lane `x` at trip `t` is the chunk's value at position `16 t + x`. -/
theorem lanes_eq (cb : S2048.Idx → Elt F .f32) (ci : S4096.Idx → BitVec 32) (hci : ∀ j, (ci j).toNat < 256)
    (t : Fin k0_t2_loop.trips) (h1 : ∀ a x, ((![k0_pay1 t] : Fin 1 → IVec S16 32) a x).toNat < S4096.size a)
    (h2 : ∀ a x, ((![k0_pay2 (F := F) (loadIdx (F := F) (s := S4096) (t := S16) (e := .i32) ci ![k0_pay1 t] h1)] : Fin 1 → IVec S16 32) a x).toNat < S2048.size a)
    (x : S16.Idx) (y : S32768.Idx) (hy : (y 0).val = 16 * t.val + (x 0).val) :
    loadIdx (F := F) (s := S2048) (t := S16) (e := .f32) cb ![k0_pay2 (F := F) (loadIdx (F := F) (s := S4096) (t := S16) (e := .i32) ci ![k0_pay1 t] h1)] h2 x
      = chunkVal cb ci y := by
  have hx : (x 0).val < 16 := (x 0).isLt
  have ht := trip_lt t
  have hv : ∀ z, ((loadIdx (F := F) (s := S4096) (t := S16) (e := .i32) ci ![k0_pay1 t] h1 z : BitVec 32)).toNat < 256 := fun z => hci _
  have hi : idxAt (s := S4096) (t := S16) ![k0_pay1 t] h1 x = pos ⟨(y 0).val / 8, by omega⟩ :=
    pos_val _ _ (show (k0_pay1 t x).toNat = (y 0).val / 8 by rw [pay1_toNat, hy]; omega)
  unfold chunkVal
  show cb _ = cb _
  congr 1
  refine pos_val _ _ ?_
  show (k0_pay2 (F := F) (loadIdx (F := F) (s := S4096) (t := S16) (e := .i32) ci ![k0_pay1 t] h1) x).toNat = (8 * (ci _).toNat + (y 0).val % 8) % 2048
  rw [pay2_toNat _ hv]
  show 8 * (ci (idxAt ![k0_pay1 t] h1 x)).toNat + _ = _
  rw [hi]
  have := hci (pos ⟨(y 0).val / 8, by omega⟩)
  omega

end Cert.Proof.Lookup

end
-- ==== Proof.Setup.lean ====
/-
  The lookup kernel as the SparseCore launch theorem sees it: its tables, the handshakes' and the copies' ghost state,
  and the buffers its body names.
-/
module

public import proofs.«01_k».proof.Proof.Words
public import Idealize.ShloMosaic.Lib.SparseCore.Quiescent
public import Idealize.ShloMosaic.Lib.SparseCore.Ops
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The program's tables -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four launch semaphores are apart and unscoped, and no buffer of a SparseCore is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the copies' counters -/

abbrev UH : Type := URounds (GSem nD τ sig) ℕ
abbrev UU : Type := UH × Counters
abbrev EH : Emb UH (MT nD τ sig (HIx 1) (Elt F) ℕ UU ℕ) := embL

/-! ## The buffers the body names -/

/-- The flat indices, the flat codebook and the flat output, as a vector subcore addresses them. -/
abbrev ixV : Memref sig .scVector .hbm S1048576 .i32 := Memref.whole main_v0_scv
abbrev cbV : Memref sig .scVector .hbm S2048 .f32 := Memref.whole main_v1_scv
abbrev outV : Memref sig .scVector .hbm S8388608 .f32 := Memref.whole main_v2_scv
/-- The subcore's own copies: the codebook, one chunk of indices, one chunk of output. -/
abbrev cbS : Memref sig .scVector .vmem S2048 .f32 := Memref.whole cc0_scratch0
abbrev ixS : Memref sig .scVector .vmem S4096 .i32 := Memref.whole cc0_scratch1
abbrev outS : Memref sig .scVector .vmem S32768 .f32 := Memref.whole cc0_scratch2

/-- The SparseCore and the vector subcore of grid point `L`, and the thread running its task. -/
abbrev coreOf (L : grid0.Coords) : Fin τ.nSC := (L 0).castLE hcore0
abbrev subOf (L : grid0.Coords) : Fin τ.nSub := (L 1).castLE hsub0
abbrev tile (d : Dev nD) (L : grid0.Coords) : Thread nD τ := V d (coreOf L) (subOf L)

end Cert.Proof.Lookup

end
-- ==== Proof.Trip.lean ====
/-
  The inner loop: sixteen words of the output chunk per trip, and after all 2048 trips the whole chunk.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- Before trip `n`: the codebook and the chunk's indices in the subcore's memory, and the first `16 n` words of the
    output chunk at their values. -/
def tripInv (d : Dev nD) (L : grid0.Coords) (cb : S2048.Idx → Elt F .f32) (ci : S4096.Idx → BitVec 32) (n : ℕ) (_ : Unit) : sProp 𝕄 :=
  iprop(((cbS).view.loc (tile d L) ↦{fullShare} cb) ∗ ((ixS).view.loc (tile d L) ↦{fullShare} ci)
    ∗ ∃ f : S32768.Idx → Elt F .f32, ⌜∀ x, (x 0).val < 16 * n → f x = chunkVal cb ci x⌝ ∗ ((outS).view.loc (tile d L) ↦{fullShare} f))

/-- The sixteen positions trip `t` stores. -/
abbrev tripRect (t : Fin k0_t2_loop.trips) : Rect S32768 := Rect.unit (s := S32768) (k0_off2 t) S16.size (k0_off2_inb t)

/-- Position `l` of trip `t`'s sixteen is position `16 t + l` of the chunk. -/
theorem tripRect_emb (t : Fin k0_t2_loop.trips) (l : (tripRect t).shape.Idx) :
    ((tripRect t).emb l 0).val = 16 * t.val + (l 0).val := by
  have h : k0_off2 t 0 = 16 * t.val := congrFun (k0_off2_eq t) 0
  show k0_off2 t 0 + 1 * (l 0).val = _
  rw [h, Nat.one_mul]

/-- The chunk after trip `t`'s store: correct below `16 (t + 1)` if it was below `16 t` and the sixteen lanes are. -/
theorem store_val (t : Fin k0_t2_loop.trips) (G f : S32768.Idx → Elt F .f32) (w : S16.Idx → Elt F .f32)
    (hf : ∀ x, (x 0).val < 16 * t.val → f x = G x)
    (hw : ∀ (l : S16.Idx) (y : S32768.Idx), (y 0).val = 16 * t.val + (l 0).val → w l = G y)
    (x : S32768.Idx) (hx : (x 0).val < 16 * (t.val + 1)) :
    ((outS).access (tripRect t)).write (Elt F) f w Finset.univ x = G x := by
  by_cases h : (x 0).val < 16 * t.val
  · rw [View.write_of_not_mem, hf x h]
    intro hm
    obtain ⟨l, -, rfl⟩ := Finset.mem_map.mp hm
    have := tripRect_emb t l
    exact absurd h (by
      show ¬ ((tripRect t).emb l 0).val < _
      rw [this]; omega)
  · let l : S16.Idx := pos ⟨(x 0).val - 16 * t.val, by omega⟩
    have e : ((outS).access (tripRect t)).emb l = x := pos_val _ _ (by
      show ((tripRect t).emb l 0).val = _
      rw [tripRect_emb]
      show 16 * t.val + ((x 0).val - 16 * t.val) = _
      omega)
    have hwx := hw l x (show (x 0).val = 16 * t.val + ((x 0).val - 16 * t.val) by omega)
    rw [← hwx]
    have := View.write_emb_of_mem (v := (outS).access (tripRect t)) (Val := Elt F) f w (Finset.mem_univ l)
    rw [e] at this
    exact this

/-- Reading the whole chunk of indices, or the whole codebook, gives what the buffer holds. -/
theorem read_ixS (f : S4096.Idx → Elt F .i32) : View.read (Elt F) ((ixS).access (Rect.whole S4096)) f = f :=
  Memref.read_access_whole (Elt F) cc0_scratch1 f
theorem read_cbS (f : S2048.Idx → Elt F .f32) : View.read (Elt F) ((cbS).access (Rect.whole S2048)) f = f :=
  Memref.read_access_whole (Elt F) cc0_scratch0 f

/-- One trip keeps the invariant, whenever every index word of the chunk is below 256. -/
theorem trip (d : Dev nD) (L : grid0.Coords) (cb : S2048.Idx → Elt F .f32) (ci : S4096.Idx → BitVec 32) (hci : ∀ j, (ci j).toNat < 256)
    (t : Fin k0_t2_loop.trips) (acc : Unit) :
    tripInv d L cb ci t.val acc
      ⊢ wp frame (wpE (defs₀ (F := F)) 𝒱₀ (tile d L) none) Set.univ
          (k0_t2_body L ixV (Memref.isWhole_whole _) cbV (Memref.isWhole_whole _) outV (Memref.isWhole_whole _)
            cbS (Memref.isWhole_whole _) ixS (Memref.isWhole_whole _) outS (Memref.isWhole_whole _) cc0_scoped0 cc0_scoped1 cc0_scoped2 t acc)
          (tripInv d L cb ci (t.val + 1)) := by
  unfold tripInv k0_t2_body
  simp only [Prog.lift, Prog.bind_op, Prog.bind_ret, Prog.pure_eq_ret]
  iintro ⟨Hcb, Hix, %f, %hf, Hout⟩
  rw [wp_assume_of _ _ _ _ (chk1 t)]
  iapply (SparseCore.wp_vectorLoadIdx 𝒱₀ (tile d L) none Set.univ (base := ixS) (S := Finset.univ) (q := fullShare) (f := ci) (Finset.subset_univ _)) $$ Hix
  iintro Hix
  rw [read_ixS ci]
  rw [wp_assume_of _ _ _ _ (chk2 (loadIdx (F := F) (s := S4096) (t := S16) (e := .i32) ci ![k0_pay1 t] (chk1 t)) (fun x => hci _))]
  iapply (SparseCore.wp_vectorLoadIdx 𝒱₀ (tile d L) none Set.univ (base := cbS) (S := Finset.univ) (q := fullShare) (f := cb) (Finset.subset_univ _)) $$ Hcb
  iintro Hcb
  rw [read_cbS cb]
  iapply (wp_load 𝒱₀ (tile d L) none Set.univ (m := outS) (S := Finset.univ) (q := fullShare) (f := f) (Finset.subset_univ _)) $$ Hout
  iintro Hout
  iapply (wp_store 𝒱₀ (tile d L) none Set.univ (m := outS) (r := tripRect t) (Mk := Finset.univ) (S := Finset.univ) (f := f) (Finset.subset_univ _)) $$ Hout
  iintro Hout
  rw [wp_ret]; imodintro
  isplitl [Hcb]; · iexact Hcb
  isplitl [Hix]; · iexact Hix
  iexists _
  isplitr
  swap; · iexact Hout
  ipureintro
  exact fun x hx => store_val t _ f _ hf (fun l y hy => lanes_eq cb ci hci t _ _ l y hy) x hx

end Cert.Proof.Lookup

end
-- ==== Proof.Copy.lean ====
/-
  One copy and its wait, as the subcore makes each of its three: the destination ends at the source's contents.
-/
module

public import proofs.«01_k».proof.Proof.Setup

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- A subcore copies `src` to `dst` on its own semaphore and waits for the copy: it holds the source again, the destination written
    with what the source held, and the semaphore at zero. -/
theorem wp_copy (d : Dev nD) (L : grid0.Coords) {sp sp' : Space} {s : Shape} {e : EltTy}
    {src : Memref sig .scVector sp s e} {dst : Memref sig .scVector sp' s e} {sem : DmaSem sig}
    {hsrc hsrc' : src.view.WordExact} {hdst hdst' : dst.view.WordExact} {hsem : DmaTarget.Typed (nD := nD) (p := (tile d L).2) sp (.dma sem) (.here dst)}
    {α : Type} {k : PUnit → Prog (TpuEff nD τ sig (Elt F) Λ₀ (tile d L).2) α} {Q : α → sProp 𝕄}
    {q : PosShare TreeShare} {fs : Buf (Elt F) (src.view.loc (tile d L))}
    {Sd : Finset (Idx (dst.view.loc (tile d L)))} {fd : Buf (Elt F) (dst.view.loc (tile d L))}
    {O : CellTallies nD τ sig (HIx 1)} {W : Waits sig (HIx 1)}
    (hs : 0 < s.numel) (hSd : dst.view.set ⊆ Sd) :
    iprop((src.view.loc (tile d L) ↦{q} fs) ∗ (dst.view.loc (tile d L) ↦[Sd]{fullShare} fd) ∗ semVal (tile d L, SemLoc.dma sem) 0
        ∗ owes (tile d L) O W ∗ Transfers.MayWaits (tile d L) (none : HIx 1) O)
      ⊢ iprop((iprop((dst.view.loc (tile d L) ↦[Sd]{fullShare} (dst.view.write (Elt F) fd (src.view.read (Elt F) fs) Finset.univ))
            ∗ (src.view.loc (tile d L) ↦{q} fs) ∗ semVal (tile d L, SemLoc.dma sem) 0 ∗ ∃ W', owes (tile d L) O W')
          -∗ wp frame (wpE (defs₀ (F := F)) 𝒱₀ (tile d L) none) Set.univ (k ⟨⟩) Q)
        -∗ wp frame (wpE (defs₀ (F := F)) 𝒱₀ (tile d L) none) Set.univ
            (.op (.enqueueDma (p := (tile d L).2) src (.here dst) (.dma sem) hsrc hdst hsem) fun _ => .op (.waitDma2 sem src dst hsrc' hdst') k) Q) := by
  iintro ⟨Hs, Hd, Hv, HO, Hmw⟩ Hk
  iapply (Transfers.wp_dmaFromWhole countersEmb 𝒱₀ (tile d L) none (via := .same) (none : HIx 1) (dst.view.amount (.dma sem)) rfl
    (View.amount_pos _ _ hs) hSd) $$ [Hs Hd Hv]
  · iframe Hs Hd Hv
  iintro Hf
  iapply (Transfers.wp_waitLocalO countersEmb 𝒱₀ (tile d L) none (none : HIx 1) (N := dst.view.amount (.dma sem)) rfl) $$ [Hf HO Hmw]
  · isplitl [Hf]; · iexact Hf
    isplitl [HO]; · iexact HO
    iapply (Transfers.MayWaits.elim (.dma sem)); iexact Hmw
  iintro ⟨⟨Hd, Hs⟩, Hv, HO⟩
  iapply Hk
  isplitl [Hd]; · iexact Hd
  isplitl [Hs]; · iexact Hs
  isplitl [Hv]; · iexact Hv
  iexists _; iexact HO

end Cert.Proof.Lookup

end
-- ==== Proof.Chunk.lean ====
/-
  Where the chunks lie: chunk `t` of a subcore's indices and of its output inside the flat arrays, and the part of the
  flat output that subcore writes.
-/
module

public import proofs.«01_k».proof.Proof.Setup

@[expose] public section

noncomputable section

namespace Cert.Proof.Lookup

open Cert.KernelIdeal Cert.KernelIdeal.Gen
open Idealize.ShloMosaic Idealize.SL.Sem

variable {F : FTy → Type}

/-- The number of grid point `L` among the 32 subcores: twice its subcore's number plus its core's. -/
def rank (L : grid0.Coords) : ℕ := 2 * (L 1).val + (L 0).val

theorem rank_lt (L : grid0.Coords) : rank L < 32 := by
  have h0 : (L 0).val < 2 := (L 0).isLt
  have h1 : (L 1).val < 16 := (L 1).isLt
  unfold rank; omega

/-- The outer loop makes at most eight trips. -/
theorem chunk_lt (t : Fin k0_t1_loop.trips) : t.val < 8 := Nat.lt_of_lt_of_le t.isLt k0_t1_abs.2.1

/-- The positions of the flat output that subcore number `r` writes. -/
def part (r : ℕ) : Finset S8388608.Idx := Finset.univ.filter fun x => (x 0).val / 262144 = r

theorem mem_part {r : ℕ} {x : S8388608.Idx} : x ∈ part r ↔ (x 0).val / 262144 = r := by
  unfold part
  exact ⟨fun h => (Finset.mem_filter.mp h).2, fun h => Finset.mem_filter.mpr ⟨Finset.mem_univ _, h⟩⟩

/-- Chunk `t` of subcore `L`'s indices: 4096 words from word `32768 r + 4096 t` on, `r` the subcore's number. -/
def chunkOf (ix : S1048576.Idx → BitVec 32) (L : grid0.Coords) (t : Fin k0_t1_loop.trips) (j : S4096.Idx) : BitVec 32 :=
  ix (pos ⟨32768 * rank L + 4096 * t.val + (j 0).val, by
    have := rank_lt L; have := chunk_lt t; have h : (j 0).val < 4096 := (j 0).isLt; omega⟩)

/-- The slice of the indices that trip `t` copies in, and the slice of the output it copies out to. -/
abbrev ixSlice (L : grid0.Coords) (t : Fin k0_t1_loop.trips) : Memref sig .scVector .hbm S4096 .i32 :=
  (ixV).slice (Rect.unit (s := S1048576) (k0_off1 L t) S4096.size (k0_off1_inb L t)) (fun _ => rfl)
abbrev outSlice (L : grid0.Coords) (t : Fin k0_t1_loop.trips) : Memref sig .scVector .hbm S32768 .f32 :=
  (outV).slice (Rect.unit (s := S8388608) (k0_off3 L t) S32768.size (k0_off3_inb L t)) (fun _ => rfl)

theorem ixSlice_emb (L : grid0.Coords) (t : Fin k0_t1_loop.trips) (j : S4096.Idx) :
    ((ixSlice L t).view.emb j 0).val = 32768 * rank L + 4096 * t.val + (j 0).val := by
  have h : k0_off1 L t 0 = 65536 * (L 1).val + 32768 * (L 0).val + 4096 * t.val := congrFun (k0_off1_eq L t) 0
  show k0_off1 L t 0 + 1 * (j 0).val = _
  rw [h]; unfold rank; omega

theorem outSlice_emb (L : grid0.Coords) (t : Fin k0_t1_loop.trips) (j : S32768.Idx) :
    ((outSlice L t).view.emb j 0).val = 262144 * rank L + 32768 * t.val + (j 0).val := by
  have h : k0_off3 L t 0 = 524288 * (L 1).val + 262144 * (L 0).val + 32768 * t.val := congrFun (k0_off3_eq L t) 0
  show k0_off3 L t 0 + 1 * (j 0).val = _
  rw [h]; unfold rank; omega

/-- What the copy in reads is the chunk. -/
theorem read_ixSlice (ix : S1048576.Idx → BitVec 32) (L : grid0.Coords) (t : Fin k0_t1_loop.trips) :
    (ixSlice L t).view.read (Elt F) ix = chunkOf ix L t := by
  funext j
  show ix ((ixSlice L t).view.emb j) = ix _
  exact congrArg ix (pos_val _ _ (ixSlice_emb L t j))

/-- A chunk's value at position `x` is the flat value at `262144 r + 32768 t + x`. -/
theorem chunkVal_chunkOf (cb : S2048.Idx → Elt F .f32) (ix : S1048576.Idx → BitVec 32) (L : grid0.Coords) (t : Fin k0_t1_loop.trips)
    (x : S32768.Idx) (y : S8388608.Idx) (hy : (y 0).val = 262144 * rank L + 32768 * t.val + (x 0).val) :
    chunkVal cb (chunkOf ix L t) x = flatVal cb ix y := by
  have hx : (x 0).val < 32768 := (x 0).isLt
  have hi : (⟨32768 * rank L + 4096 * t.val + (x 0).val / 8, by
      have := rank_lt L; have := chunk_lt t; omega⟩ : Fin 1048576) = ⟨(y 0).val / 8, by
        have h : (y 0).val < 8388608 := (y 0).isLt; omega⟩ := Fin.ext (by
          show 32768 * rank L + 4096 * t.val + (x 0).val / 8 = (y 0).val / 8; omega)
  unfold chunkVal flatVal chunkOf
  show cb (cbPos (ix (pos (⟨32768 * rank L + 4096 * t.val + (x 0).val / 8, _⟩ : Fin 1048576))) _) = _
  rw [hi, show (x 0).val % 8 = (y 0).val % 8 by omega]

/-- The slice copied out to lies in the subcore's part of the output. -/
theorem outSlice_sub (L : grid0.Coords) (t : Fin k0_t1_loop.trips) : (outSlice L t).view.set ⊆ part (rank L) := by
  intro x hx
  obtain ⟨j, -, rfl⟩ := Finset.mem_map.mp hx
  have hj : (j 0).val < 32768 := (j 0).isLt
  have := chunk_lt t
  refine mem_part.mpr ?_
  show ((outSlice L t).view.emb j 0).val / 262144 = _
  rw [outSlice_emb]; omega

/-- The output after trip `t`'s copy out: at its values on the first `t + 1` chunks of the part, if it was on the first `t` and
    the copied chunk is at its values. -/
theorem out_write (cb : S2048.Idx → Elt F .f32) (ix : S1048576.Idx → BitVec 32) (L : grid0.Coords) (t : Fin k0_t1_loop.trips)
    (f : S8388608.Idx → Elt F .f32) (w : S32768.Idx → Elt F .f32) (hw : ∀ x, w x = chunkVal cb (chunkOf ix L t) x)
    (hf : ∀ x, 262144 * rank L ≤ (x 0).val → (x 0).val < 262144 * rank L + 32768 * t.val → f x = flatVal cb ix x)
    (x : S8388608.Idx) (h1 : 262144 * rank L ≤ (x 0).val) (h2 : (x 0).val < 262144 * rank L + 32768 * (t.val + 1)) :
    (outSlice L t).view.write (Elt F) f w Finset.univ x = flatVal cb ix x := by
  by_cases h : (x 0).val < 262144 * rank L + 32768 * t.val
  · rw [View.write_of_not_mem, hf x h1 h]
    intro hm
    obtain ⟨l, -, rfl⟩ := Finset.mem_map.mp hm
    have := outSlice_emb L t l
    exact absurd h (by
      show ¬ ((outSlice L t).view.emb l 0).val < _
      rw [this]; omega)
  · let l : S32768.Idx := pos ⟨(x 0).val - (262144 * rank L + 32768 * t.val), by omega⟩
    have e : (outSlice L t).view.emb l = x := pos_val _ _ (by
      rw [outSlice_emb]
      show _ + ((x 0).val - (262144 * rank L + 32768 * t.val)) = _
      omega)
    have hl : (x 0).val = 262144 * rank L + 32768 * t.val + (l 0).val := by
      show _ = _ + ((x 0).val - (262144 * rank L + 32768 * t.val))
      omega
    have := View.write_emb_of_mem (v := (outSlice L t).view) (Val := Elt F) f w (Finset.mem_univ l)
    rw [e] at this
    exact this.trans ((hw l).trans (chunkVal_chunkOf cb ix L t l x hl))

end Cert.Proof.Lookup

end
-- ==== Proof.Outer.lean ====
/-
  The outer loop: one chunk per trip — its indices copied in, the inner loop, its output copied out — and after all eight
  trips the subcore's whole part of the output.
-/
module

public import proofs.«01_k».proof.Proof.Trip
public import proofs.«01_k».proof.Proof.Copy
public import proofs.«01_k».proof.Proof.Chunk

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

theorem inner_trips : k0_t2_loop.trips = 2048 := by decide
theorem outer_trips : k0_t1_loop.trips = 8 := by decide

/-- Before trip `n`: a share of the indices, the codebook in the subcore's memory, the first `n` chunks of the subcore's part of the
    output at their values, and the two copies' semaphores at zero. -/
def chunkInv (d : Dev nD) (L : grid0.Coords) (q : PosShare TreeShare) (cb : S2048.Idx → Elt F .f32) (ix : S1048576.Idx → BitVec 32)
    (O : CellTallies nD τ sig (HIx 1)) (n : ℕ) (_ : Unit) : sProp 𝕄 :=
  iprop(((ixV).view.loc (tile d L) ↦{q} ix) ∗ ((cbS).view.loc (tile d L) ↦{fullShare} cb)
    ∗ (∃ fi : S4096.Idx → BitVec 32, (ixS).view.loc (tile d L) ↦{fullShare} fi)
    ∗ (∃ fo : S32768.Idx → Elt F .f32, (outS).view.loc (tile d L) ↦{fullShare} fo)
    ∗ (∃ f : S8388608.Idx → Elt F .f32,
        ⌜∀ x, 262144 * rank L ≤ (x 0).val → (x 0).val < 262144 * rank L + 32768 * n → f x = flatVal cb ix x⌝
          ∗ ((outV).view.loc (tile d L) ↦[part (rank L)]{fullShare} f))
    ∗ semVal (tile d L, SemLoc.dma cc0_scoped1.sem) 0 ∗ semVal (tile d L, SemLoc.dma cc0_scoped2.sem) 0
    ∗ Transfers.MayWaits (tile d L) (none : HIx 1) O ∗ ∃ W, owes (tile d L) O W)

/-- One trip keeps the invariant, whenever every index word is below 256. -/
theorem chunk (d : Dev nD) (L : grid0.Coords) (q : PosShare TreeShare) (cb : S2048.Idx → Elt F .f32) (ix : S1048576.Idx → BitVec 32)
    (hix : ∀ j, (ix j).toNat < 256) (O : CellTallies nD τ sig (HIx 1)) (t : Fin k0_t1_loop.trips) (acc : Unit) :
    chunkInv d L q cb ix O t.val acc
      ⊢ wp frame (wpE (defs₀ (F := F)) 𝒱₀ (tile d L) none) Set.univ
          (k0_t1_body L ixV (Memref.isWhole_whole _) cbV (Memref.isWhole_whole _) outV (Memref.isWhole_whole _)
            cbS (Memref.isWhole_whole _) ixS (Memref.isWhole_whole _) outS (Memref.isWhole_whole _) cc0_scoped0 cc0_scoped1 cc0_scoped2 t acc)
          (chunkInv d L q cb ix O (t.val + 1)) := by
  unfold chunkInv k0_t1_body
  simp only [Prog.lift, Prog.bind_op, Prog.bind_ret, Prog.pure_eq_ret]
  iintro ⟨Hix, Hcb, ⟨%fi, Hi⟩, ⟨%fo, Ho⟩, ⟨%f, %hf, Hout⟩, Hs1, Hs2, #Hmw, %W, HO⟩
  iapply (wp_copy d L (src := ixSlice L t) (dst := ixS) (sem := cc0_scoped1.sem) (q := q) (fs := ix) (Sd := Finset.univ) (fd := fi)
    (show 0 < S4096.numel by decide) (Finset.subset_univ _)) $$ [Hix Hi Hs1 HO]
  · isplitl [Hix]; · iexact Hix
    isplitl [Hi]; · iexact Hi
    isplitl [Hs1]; · iexact Hs1
    isplitl [HO]; · iexact HO
    iexact Hmw
  iintro ⟨Hi, Hix, Hs1, %W1, HO⟩
  rw [read_ixSlice (F := F) ix L t, View.write_whole_univ]
  iapply (Scf.wp_for_bind frame (wpE (defs₀ (F := F)) 𝒱₀ (tile d L) none) Set.univ _ _ _ _ _ _ (tripInv d L cb (chunkOf ix L t))
    (trip d L cb (chunkOf ix L t) (fun j => hix _))) $$ [Hcb Hi Ho]
  · unfold tripInv
    isplitl [Hcb]; · iexact Hcb
    isplitl [Hi]; · iexact Hi
    iexists fo
    isplitr
    swap; · iexact Ho
    ipureintro; intro x hx; omega
  iintro %acc' HI
  unfold tripInv
  icases HI with ⟨Hcb, Hi, %g, %hg, Ho⟩
  iapply (wp_copy d L (src := outS) (dst := outSlice L t) (sem := cc0_scoped2.sem) (q := fullShare) (fs := g) (Sd := part (rank L)) (fd := f)
    (show 0 < S32768.numel by decide) (outSlice_sub L t)) $$ [Ho Hout Hs2 HO]
  · isplitl [Ho]; · iexact Ho
    isplitl [Hout]; · iexact Hout
    isplitl [Hs2]; · iexact Hs2
    isplitl [HO]; · iexact HO
    iexact Hmw
  iintro ⟨Hout, Ho, Hs2, HO⟩
  rw [View.read_whole]
  rw [wp_ret]; imodintro
  isplitl [Hix]; · iexact Hix
  isplitl [Hcb]; · iexact Hcb
  isplitl [Hi]; · iexists _; iexact Hi
  isplitl [Ho]; · iexists _; iexact Ho
  isplitl [Hout]
  · iexists _
    isplitr
    swap; · iexact Hout
    ipureintro
    exact out_write cb ix L t f g (fun x => hg x (by
      have hx : (x 0).val < 32768 := (x 0).isLt
      have h2 := inner_trips
      show (x 0).val < 16 * k0_t2_loop.trips
      omega)) hf
  isplitl [Hs1]; · iexact Hs1
  isplitl [Hs2]; · iexact Hs2
  isplitr; · iexact Hmw
  iexact HO

end Cert.Proof.Lookup

end
-- ==== Proof.Deal.lean ====
/-
  How the three flat arrays are dealt to the 32 vector subcores and come back: each subcore a share of the indices and of the
  codebook, and its own part of the output.
-/
module

public import proofs.«01_k».proof.Proof.Chunk

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The arrays of @main, as locations of device `d` -/

abbrev arg0Loc (d : Dev nD) : Loc nD τ sig := (SparseCore.T d).loc main_arg0
abbrev arg1Loc (d : Dev nD) : Loc nD τ sig := (SparseCore.T d).loc main_arg1
abbrev ixLoc (d : Dev nD) : Loc nD τ sig := (SparseCore.T d).loc main_v0
abbrev cbLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-! ## One subcore's piece -/

/-- The share of the two read arrays that subcore `i` of core `c` holds. -/
def shareOf (c : Fin 2) (i : Fin 16) : PosShare TreeShare := leaf 4 (leaf 1 fullShare c) i

/-- Subcore `i` of core `c`'s piece: its share of the indices `ix` and of the codebook `cb`, and its part of the output at `f`. -/
def piece (d : Dev nD) (ix : S1048576.Idx → BitVec 32) (cb : S2048.Idx → Elt F .f32) (f : S8388608.Idx → Elt F .f32) (c : Fin 2) (i : Fin 16) : sProp 𝕄 :=
  iprop((ixLoc d ↦{shareOf c i} ix) ∗ (cbLoc d ↦{shareOf c i} cb) ∗ (outLoc d ↦[part (2 * i.val + c.val)]{fullShare} f))

instance piece_storable (d : Dev nD) (ix : S1048576.Idx → BitVec 32) (cb : S2048.Idx → Elt F .f32) (f : S8388608.Idx → Elt F .f32) (c : Fin 2) (i : Fin 16) :
    BI.Storable (upEmb : UEmb _ 𝕄) (piece d ix cb f c i) := by
  unfold piece; infer_instance

/-- Two subcores write apart, and every output position is some subcore's. -/
theorem parts_disjoint (x : Fin 2 × Fin 16) (_ : x ∈ (Finset.univ : Finset (Fin 2 × Fin 16))) (y : Fin 2 × Fin 16)
    (_ : y ∈ (Finset.univ : Finset (Fin 2 × Fin 16))) (h : x ≠ y) : Disjoint (part (2 * x.2.val + x.1.val)) (part (2 * y.2.val + y.1.val)) := by
  rw [Finset.disjoint_left]
  intro p hx hy
  have hx := mem_part.mp hx
  have hy := mem_part.mp hy
  have h1 := x.1.isLt
  have h2 := y.1.isLt
  exact h (Prod.ext (Fin.ext (by omega)) (Fin.ext (by omega)))

theorem parts_cover : (Finset.univ : Finset (Fin 2 × Fin 16)).biUnion (fun x => part (2 * x.2.val + x.1.val)) = Finset.univ := by
  ext p
  have hp : (p 0).val < 8388608 := (p 0).isLt
  refine ⟨fun _ => Finset.mem_univ _, fun _ => Finset.mem_biUnion.mpr
    ⟨(⟨(p 0).val / 262144 % 2, by omega⟩, ⟨(p 0).val / 262144 / 2, by omega⟩), Finset.mem_univ _, mem_part.mpr ?_⟩⟩
  show _ = 2 * ((p 0).val / 262144 / 2) + (p 0).val / 262144 % 2
  omega

/-- An array held whole is all the subcores' shares of it. -/
theorem shares (ℓ : Loc nD τ sig) (f : Buf (Elt F) ℓ) :
    (ℓ ↦{fullShare} f : sProp 𝕄) = bigSep Finset.univ fun c : Fin 2 => bigSep Finset.univ fun i : Fin 16 => ℓ ↦{shareOf c i} f := by
  rw [pointsTo_leaves Finset.univ f 1 fullShare]
  exact bigSep_congr fun c _ => pointsTo_leaves Finset.univ f 4 _

/-- The output held whole is all the subcores' parts of it. -/
theorem parts (d : Dev nD) (f : Buf (Elt F) (outLoc d)) :
    (outLoc d ↦{fullShare} f : sProp 𝕄)
      = bigSep Finset.univ fun c : Fin 2 => bigSep Finset.univ fun i : Fin 16 => outLoc d ↦[part (2 * i.val + c.val)]{fullShare} f := by
  rw [← bigSep_univ_prod (fun x : Fin 2 × Fin 16 => (outLoc d ↦[part (2 * x.2.val + x.1.val)]{fullShare} f : sProp 𝕄)),
    ← pointsTo_biUnion Finset.univ (ℓ := outLoc d) (fun x : Fin 2 × Fin 16 => part (2 * x.2.val + x.1.val)) parts_disjoint, parts_cover]

/-- The three flat arrays held whole are the 32 subcores' pieces. -/
theorem pieces (d : Dev nD) (ix : S1048576.Idx → BitVec 32) (cb : S2048.Idx → Elt F .f32) (f : S8388608.Idx → Elt F .f32) :
    (bigSep Finset.univ fun c : Fin 2 => bigSep Finset.univ fun i : Fin 16 => piece d ix cb f c i)
      = (iprop((ixLoc d ↦{fullShare} ix) ∗ (cbLoc d ↦{fullShare} cb) ∗ (outLoc d ↦{fullShare} f)) : sProp 𝕄) := by
  rw [shares (ixLoc d), shares (cbLoc d), parts d]
  unfold piece
  simp only [bigSep_sep']

/-! ## What the call hands over and takes back -/

variable (m : (ℓ : Loc nD τ sig) → Buf (Elt F) ℓ)

/-- The flat indices and the flat codebook @main passes: the arguments in row-major order. -/
def ixOf (d : Dev nD) : S1048576.Idx → BitVec 32 := shapeCast S1048576 (m (arg0Loc d)) shapeCasts_S128x8192_S1048576
def cbOf (d : Dev nD) : S2048.Idx → Elt F .f32 := shapeCast S2048 (m (arg1Loc d)) shapeCasts_S256x8_S2048

/-- The flat output the kernel leaves, and the result @main returns from it. -/
def flatOf (d : Dev nD) : S8388608.Idx → Elt F .f32 := flatVal (cbOf m d) (ixOf m d)
def resOf (d : Dev nD) : S128x8192x2x4.Idx → Elt F .f32 := shapeCast S128x8192x2x4 (flatOf m d) shapeCasts_S8388608_S128x8192x2x4

/-- Every subcore is handed its piece with the output as the launch left it, and hands it back with the output at its values; a core
    is handed and hands back its sixteen subcores' pieces. -/
def P : (K (F := F)).Pay (nD := nD) (Val := Elt F) (Name := ℕ) (U := UU) where
  st := fun q d c => match q with | 0 => bigSep Finset.univ fun i : Fin 16 => piece d (ixOf m d) (cbOf m d) (m (outLoc d)) (Fin.cast nCore_zero c) i
  dn := fun q d c => match q with | 0 => bigSep Finset.univ fun i : Fin 16 => piece d (ixOf m d) (cbOf m d) (flatOf m d) (Fin.cast nCore_zero c) i
  go := fun q d c i => match q with | 0 => piece d (ixOf m d) (cbOf m d) (m (outLoc d)) (Fin.cast nCore_zero c) (Fin.cast nSub_zero i)
  td := fun q d c i => match q with | 0 => piece d (ixOf m d) (cbOf m d) (flatOf m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 =>
        piece d (ixOf m d) (cbOf m d) (m (outLoc d)) (Fin.cast nCore_zero c) i))
  dn q d c := match q with
    | 0 => (inferInstance : BI.Storable (upEmb : UEmb _ 𝕄) (bigSep Finset.univ fun i : Fin 16 =>
        piece d (ixOf m d) (cbOf m d) (flatOf m d) (Fin.cast nCore_zero c) i))
  go q d c i := match q with
    | 0 => piece_storable d (ixOf m d) (cbOf m d) (m (outLoc d)) (Fin.cast nCore_zero c) (Fin.cast nSub_zero i)
  td q d c i := match q with
    | 0 => piece_storable d (ixOf m d) (cbOf m d) (flatOf m d) (Fin.cast nCore_zero c) (Fin.cast nSub_zero i)

/-- A core's sixteen pieces are its tasks' pieces. -/
theorem vecSplit : (K (F := F)).VecSplit' (P m) 0 := by
  intro d c
  have h (f : S8388608.Idx → Elt F .f32) :
      (bigSep Finset.univ fun i : Fin ((K (F := F)).nSub 0) => piece d (ixOf m d) (cbOf m d) f (Fin.cast nCore_zero c) (Fin.cast nSub_zero i))
        = (bigSep Finset.univ fun i : Fin 16 => piece d (ixOf m d) (cbOf m d) f (Fin.cast nCore_zero c) i : sProp 𝕄) :=
    bigSep_congr fun _ _ => rfl
  show (bigSep Finset.univ fun i : Fin 16 => piece d (ixOf m d) (cbOf m d) (m (outLoc d)) (Fin.cast nCore_zero c) i)
    ⊢ |={Set.univ}=> iprop((bigSep Finset.univ fun i : Fin ((K (F := F)).nSub 0) =>
          piece d (ixOf m d) (cbOf m d) (m (outLoc d)) (Fin.cast nCore_zero c) (Fin.cast nSub_zero i))
      ∗ ((bigSep Finset.univ fun i : Fin ((K (F := F)).nSub 0) => piece d (ixOf m d) (cbOf m d) (flatOf m d) (Fin.cast nCore_zero c) (Fin.cast nSub_zero i))
          -∗ bigSep Finset.univ fun i : Fin 16 => piece d (ixOf m d) (cbOf m d) (flatOf m d) (Fin.cast nCore_zero c) i))
  rw [h, h]
  iintro H; imodintro
  isplitl [H]; · iexact H
  iintro H; iexact H

/-- What the two cores are handed at the call is the three flat arrays, and what they hand back is the same with the output at its values. -/
theorem st0_eq (d : Dev nD) :
    (bigSep Finset.univ fun c : Fin ((K (F := F)).nCore 0) => (P m).st 0 d c)
      = (iprop((ixLoc d ↦{fullShare} ixOf m d) ∗ (cbLoc d ↦{fullShare} cbOf m d) ∗ (outLoc d ↦{fullShare} m (outLoc d))) : sProp 𝕄) :=
  pieces d (ixOf m d) (cbOf m d) (m (outLoc d))
theorem dn0_eq (d : Dev nD) :
    (bigSep Finset.univ fun c : Fin ((K (F := F)).nCore 0) => (P m).dn 0 d c)
      = (iprop((ixLoc d ↦{fullShare} ixOf m d) ∗ (cbLoc d ↦{fullShare} cbOf m d) ∗ (outLoc d ↦{fullShare} flatOf m d)) : sProp 𝕄) :=
  pieces d (ixOf m d) (cbOf m d) (flatOf m d)

end Cert.Proof.Lookup

end
-- ==== Proof.Tile.lean ====
/-
  One vector subcore's task: the codebook copied in, then the outer loop; from its piece with the output at anything to its piece
  with the output at its values.
-/
module

public import proofs.«01_k».proof.Proof.Outer
public import proofs.«01_k».proof.Proof.Deal

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## What the subcore owns: three scratch buffers and three copy semaphores, with whatever else is scoped to it -/

/-- The cell of one of the subcore's copy semaphores. -/
abbrev cellOf (d : Dev nD) (L : grid0.Coords) (s : DmaSem sig) : GSem nD τ sig := (tile d L, .dma s)

/-- The subcore's other scoped semaphores, and its other buffers. -/
def semsLeft (d : Dev nD) (L : grid0.Coords) : Finset (GSem nD τ sig) :=
  (((ownCells (tile d L)).erase (cellOf d L cc0_scoped0.sem)).erase (cellOf d L cc0_scoped1.sem)).erase (cellOf d L cc0_scoped2.sem)
def bufsLeft (L : grid0.Coords) : Finset (DevRef τ sig) :=
  (((ownRefs (τ := τ) (sig := sig) (.scVector (coreOf L) (subOf L))).erase ((Proc.scVector (coreOf L) (subOf L)).devRef cc0_scratch0)).erase
    ((Proc.scVector (coreOf L) (subOf L)).devRef cc0_scratch1)).erase ((Proc.scVector (coreOf L) (subOf L)).devRef cc0_scratch2)

/-- Each copy semaphore is one of the subcore's scoped cells. -/
theorem cell_mem (d : Dev nD) (L : grid0.Coords) (s : DmaSem sig) (h : (SemLoc.dma s : SemLoc sig).isScoped .scVector = true) :
    cellOf d L s ∈ ownCells (tile d L) := mem_ownCells.mpr ⟨rfl, h⟩

/-- Cells of different semaphores are different. -/
theorem cell_ne (d : Dev nD) (L : grid0.Coords) (s s' : DmaSem sig) (h : (SemLoc.dma s : SemLoc sig) ≠ .dma s') : cellOf d L s ≠ cellOf d L s' :=
  fun e => h (congrArg Prod.snd e)

theorem ownSems_eq (d : Dev nD) (L : grid0.Coords) :
    (ownSems0 (tile d L) : sProp 𝕄)
      = iprop(semVal (cellOf d L cc0_scoped0.sem) 0 ∗ semVal (cellOf d L cc0_scoped1.sem) 0 ∗ semVal (cellOf d L cc0_scoped2.sem) 0
          ∗ bigSep (semsLeft d L) fun g => semVal g 0) := by
  have m0 := cell_mem d L cc0_scoped0.sem (by decide)
  have m1 := cell_mem d L cc0_scoped1.sem (by decide)
  have m2 := cell_mem d L cc0_scoped2.sem (by decide)
  unfold ownSems0 semsLeft
  rw [SparseCore.bigSep_erase' m0,
    SparseCore.bigSep_erase' (Finset.mem_erase.mpr ⟨cell_ne d L _ _ (by decide), m1⟩),
    SparseCore.bigSep_erase' (Finset.mem_erase.mpr ⟨cell_ne d L _ _ (by decide), Finset.mem_erase.mpr ⟨cell_ne d L _ _ (by decide), m2⟩⟩)]

theorem ownBufs_eq (d : Dev nD) (L : grid0.Coords) :
    (ownBufs (tile d L) : sProp 𝕄)
      = iprop((∃ f : S2048.Idx → Elt F .f32, (cbS).view.loc (tile d L) ↦{fullShare} f)
          ∗ (∃ f : S4096.Idx → BitVec 32, (ixS).view.loc (tile d L) ↦{fullShare} f)
          ∗ (∃ f : S32768.Idx → Elt F .f32, (outS).view.loc (tile d L) ↦{fullShare} f)
          ∗ bigSep (bufsLeft L) fun b => iprop(∃ f, ((d, b) : Loc nD τ sig) ↦{fullShare} f)) := by
  have ne {r r' : Ref sig .scVector} (h : r ≠ r') : (Proc.scVector (τ := τ) (coreOf L) (subOf L)).devRef r ≠ (Proc.scVector (coreOf L) (subOf L)).devRef r' :=
    fun e => h (Proc.devRef_injective _ e)
  have m0 : (Proc.scVector (coreOf L) (subOf L)).devRef cc0_scratch0 ∈ ownRefs (τ := τ) (sig := sig) (.scVector (coreOf L) (subOf L)) := mem_ownRefs_of_owner rfl
  have m1 : (Proc.scVector (coreOf L) (subOf L)).devRef cc0_scratch1 ∈ ownRefs (τ := τ) (sig := sig) (.scVector (coreOf L) (subOf L)) := mem_ownRefs_of_owner rfl
  have m2 : (Proc.scVector (coreOf L) (subOf L)).devRef cc0_scratch2 ∈ ownRefs (τ := τ) (sig := sig) (.scVector (coreOf L) (subOf L)) := mem_ownRefs_of_owner rfl
  unfold ownBufs bufsLeft
  refine (SparseCore.bigSep_erase' m0).trans ?_
  rw [SparseCore.bigSep_erase' (Finset.mem_erase.mpr ⟨ne (show (cc0_scratch1 : Ref sig .scVector) ≠ cc0_scratch0 by decide), m1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), m2⟩⟩)]
  rfl

variable [FloatOps F]

/-! ## The task -/

/-- The task at grid point `L`: from shares of the indices and the codebook and its part of the output at any contents, to the same with
    every word of its part at its value — whenever every index word is below 256. -/
theorem tile_body (d : Dev nD) (L : grid0.Coords) (q : PosShare TreeShare) (cb : S2048.Idx → Elt F .f32) (ix : S1048576.Idx → BitVec 32)
    (hix : ∀ j, (ix j).toNat < 256) (f : S8388608.Idx → Elt F .f32)
    (hF : (K (F := F)).Facts) (O : CellTallies nD τ sig (HIx 1)) (W : Waits sig (HIx 1)) (hO : ∀ g, O g none = 0) :
    (iprop(levAts (K (F := F)).L (K (F := F)).lev ∗ emp
        ∗ ((ixLoc d ↦{q} ix) ∗ (cbLoc d ↦{q} cb) ∗ (outLoc d ↦[part (rank L)]{fullShare} f))
        ∗ scopedBufs (tile d L) ∗ scopedSems0 (tile d L) ∗ owes (tile d L) O W) : sProp 𝕄)
      ⊢ wp frame (wpE (defs₀ (F := F)) 𝒱₀ (tile d L) none) Set.univ
          (cc0_sc_lookup L ixV (Memref.isWhole_whole _) cbV (Memref.isWhole_whole _) outV (Memref.isWhole_whole _)
            cbS (Memref.isWhole_whole _) ixS (Memref.isWhole_whole _) outS (Memref.isWhole_whole _) cc0_scoped0 cc0_scoped1 cc0_scoped2)
          fun _ => iprop(((ixLoc d ↦{q} ix) ∗ (cbLoc d ↦{q} cb) ∗ (outLoc d ↦[part (rank L)]{fullShare} flatVal cb ix))
            ∗ scopedBufs (tile d L) ∗ scopedSems0 (tile d L)
            ∗ ∃ W', ⌜∀ p ∈ W', p ∈ W ∨ p.2 = none ∨ p.2 = some (0 : Fin 1)⌝ ∗ owes (tile d L) O W') := by
  rw [(K (F := F)).scopedBufs_V hF d (coreOf L) (subOf L), SparseCore.Cfg.scopedSems0_V (Val := Elt F) d (coreOf L) (subOf L), ownSems_eq, ownBufs_eq]
  simp only [cc0_sc_lookup_eq_skeleton]
  unfold cc0_sc_lookup_skel
  simp only [Prog.lift, Prog.bind_op, Prog.bind_ret, Prog.pure_eq_ret]
  iintro ⟨#Hlv, -, ⟨Hix, Hcb, Hout⟩, ⟨⟨%f0, Hb0⟩, Hb1, Hb2, Hbs⟩, ⟨Hs0, Hs1, Hs2, Hss⟩, HO⟩
  ihave #Hmw := (show levAts (K (F := F)).L (K (F := F)).lev ⊢ Transfers.MayWaits (tile d L) (none : HIx 1) O from
    (K (F := F)).mayWaits_none (thr := tile d L) hO) $$ Hlv
  iapply (wp_copy d L (src := cbV) (dst := cbS) (sem := cc0_scoped0.sem) (q := q) (fs := cb) (Sd := Finset.univ) (fd := f0)
    (show 0 < S2048.numel by decide) (Finset.subset_univ _)) $$ [Hcb Hb0 Hs0 HO]
  · isplitl [Hcb]; · iexact Hcb
    isplitl [Hb0]; · iexact Hb0
    isplitl [Hs0]; · iexact Hs0
    isplitl [HO]; · iexact HO
    iexact Hmw
  iintro ⟨Hb0, Hcb, Hs0, HO⟩
  rw [View.read_whole, View.write_whole_univ]
  iapply (Scf.wp_for_bind frame (wpE (defs₀ (F := F)) 𝒱₀ (tile d L) none) Set.univ _ _ _ _ _ _ (chunkInv d L q cb ix O)
    (chunk d L q cb ix hix O)) $$ [Hix Hb0 Hb1 Hb2 Hout Hs1 Hs2 HO]
  · unfold chunkInv
    isplitl [Hix]; · iexact Hix
    isplitl [Hb0]; · iexact Hb0
    isplitl [Hb1]; · iexact Hb1
    isplitl [Hb2]; · iexact Hb2
    isplitl [Hout]
    · iexists f
      isplitr
      swap; · iexact Hout
      ipureintro; intro x h1 h2; omega
    isplitl [Hs1]; · iexact Hs1
    isplitl [Hs2]; · iexact Hs2
    isplitr; · iexact Hmw
    iexact HO
  iintro %acc HI
  unfold chunkInv
  icases HI with ⟨Hix, Hb0, Hb1, Hb2, ⟨%g, %hg, Hout⟩, Hs1, Hs2, -, %W', HO⟩
  have hval : ∀ x ∈ part (rank L), g x = flatVal cb ix x := by
    intro x hx
    have hx := mem_part.mp hx
    have h8 : k0_t1_loop.trips = 8 := outer_trips
    exact hg x (by omega) (by
      show (x 0).val < 262144 * rank L + 32768 * k0_t1_loop.trips
      omega)
  rw [wp_ret]; imodintro
  isplitl [Hix Hcb Hout]
  · isplitl [Hix]; · iexact Hix
    isplitl [Hcb]; · iexact Hcb
    rw [← pointsTo_congr (ℓ := outLoc d) (q := fullShare) (I := part (rank L)) hval]
    iexact Hout
  isplitl [Hb0 Hb1 Hb2 Hbs]
  · isplitl [Hb0]; · iexists _; iexact Hb0
    isplitl [Hb1]; · iexact Hb1
    isplitl [Hb2]; · iexact Hb2
    iexact Hbs
  isplitl [Hs0 Hs1 Hs2 Hss]
  · isplitl [Hs0]; · iexact Hs0
    isplitl [Hs1]; · iexact Hs1
    isplitl [Hs2]; · iexact Hs2
    iexact Hss
  iexists _; isplitr
  swap; · iexact HO
  ipureintro; intro p _
  rcases p.2 with _ | r
  · exact .inr (.inl rfl)
  · exact .inr (.inr (congrArg some (Subsingleton.elim r 0)))

/-! ## The obligation the launch asks of every task -/

/-- The grid point of core `c`, subcore `s`. -/
def pointOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_lookup (pointOf c s)
          ixV (Memref.isWhole_whole _) cbV (Memref.isWhole_whole _) outV (Memref.isWhole_whole _)
          cbS (Memref.isWhole_whole _) ixS (Memref.isWhole_whole _) outS (Memref.isWhole_whole _) cc0_scoped0 cc0_scoped1 cc0_scoped2) ⟨⟩ c s := rfl

/-- Every task does what the handshakes promise of it, whenever every index word is below 256. -/
theorem tileObl (m : (ℓ : Loc nD τ sig) → Buf (Elt F) ℓ) (hix : ∀ d j, (ixOf m d j).toNat < 256) (hF : (K (F := F)).Facts) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (pointOf ⟨_, hci.1⟩ ⟨_, hci.2⟩) (shareOf (Fin.cast nCore_zero c) (Fin.cast nSub_zero i)) (cbOf m d) (ixOf m d) (hix d)
    (m (outLoc d)) hF O W hO

end Cert.Proof.Lookup

end
-- ==== Proof.Launch.lean ====
/-
  @main and the whole run: two reshapes, the call, the last reshape; every execution ends with the arguments as they were and the
  result at the looked-up values.
-/
module

public import proofs.«01_k».proof.Proof.Tile

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch's ghost element: the handshakes' rounds -/

def u₀ : UU := (initOf (K (F := F)).hsCells (K (F := F)).hsToks, 1)

/-- Nothing held for every index is nothing held. -/
theorem no_pieces {I : Type} (s : Finset I) : (bigSep s fun _ => iprop(emp)) = (iprop(emp) : sProp 𝕄) := bigSep_emp_const s

/-- The launch element is the handshakes' rounds; the kernel takes nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_pieces]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_pieces]
  iempintro

/-! ## @main's buffers, and one reshape -/

theorem unscoped_eq (d : Dev nD) (W : (b : Ref sig .tc) → Buf (Elt F) ((d.tc : Thread nD τ).loc b)) :
    (unscopedBufs d W : sProp 𝕄)
      = iprop((arg0Loc d ↦{fullShare} W main_arg0) ∗ (arg1Loc d ↦{fullShare} W main_arg1) ∗ (ixLoc d ↦{fullShare} W main_v0)
          ∗ (cbLoc d ↦{fullShare} W main_v1) ∗ (outLoc d ↦{fullShare} W main_v2) ∗ (resLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

variable [FloatOps F]

include m in
/-- A reshape of `x` into `y` leaves `x` as it was and `y` at `x`'s contents in row-major order. -/
theorem wp_reshape (d : Dev nD) (x y : Ref sig .tc) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false) (hxy : x ≠ y)
    (f : Buf (Elt F) ((SparseCore.T d).loc x)) (g : Buf (Elt F) ((SparseCore.T d).loc y)) {Q : PUnit → sProp 𝕄} :
    (iprop(boundary (SparseCore.T d) ∗ ((SparseCore.T d).loc x ↦{fullShare} f) ∗ ((SparseCore.T d).loc y ↦{fullShare} g)) : sProp 𝕄)
      ⊢ iprop((iprop(boundary (SparseCore.T d) ∗ ((SparseCore.T d).loc x ↦{fullShare} f)
            ∗ ((SparseCore.T d).loc y ↦{fullShare} (fun i => he ▸ shapeCast y.ty.shape f hn i : Buf (Elt F) ((SparseCore.T d).loc y))))
          -∗ Q ⟨⟩)
        -∗ wp frame (wpE ((K (F := F)).defs (D (F := F))) 𝒱 (SparseCore.T d) none) Set.univ
            (hlo rfl (StableHlo.reshape x y he hn hx hy) (fun _ => .ret ⟨⟩)) Q) := by
  have hne : Proc.devRef (τ := τ) .tc x ≠ Proc.devRef .tc y := fun e => hxy (Proc.devRef_injective _ e)
  let V0 : Valuation τ sig (Elt F) := fun b => m (d, b)
  let V1 : Valuation τ sig (Elt F) := Function.update (Function.update V0 (Proc.devRef .tc x) f) (Proc.devRef .tc y) g
  have hV1x : V1 (Proc.devRef .tc x) = f := by
    show Function.update _ _ _ _ = _
    rw [Function.update_of_ne hne, Function.update_self]
  have hV1y : V1 (Proc.devRef .tc y) = g := Function.update_self _ _ _
  have hheld (W : Valuation τ sig (Elt F)) : (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold held
    rw [SparseCore.bigSep_insert' (by simpa using hne), bigSep_singleton]
  have hres : (held (SparseCore.T d) {Proc.devRef .tc x, Proc.devRef .tc y} ((StableHlo.reshape x y he hn hx hy).result V1) : sProp 𝕄)
      = iprop(((SparseCore.T d).loc x ↦{fullShare} f)
          ∗ ((SparseCore.T d).loc y ↦{fullShare} (fun i => he ▸ shapeCast y.ty.shape f hn i : Buf (Elt F) ((SparseCore.T d).loc y)))) := by
    rw [hheld, StableHlo.reshape_result_ne _ _ _ _ _ _ _ hxy, StableHlo.reshape_result, hV1x]
  iintro ⟨Hb, Hx, Hy⟩ Hk
  iapply (wp_hlo_within 𝒱 (SparseCore.T d) none Set.univ (op := StableHlo.reshape x y he hn hx hy)
    (S := {Proc.devRef .tc x, Proc.devRef .tc y}) (Finset.Subset.refl _) (V := V1)) $$ [Hb Hx Hy]
  · isplitl [Hb]; · iexact Hb
    rw [hheld, hV1x, hV1y]
    isplitl [Hx]; · iexact Hx
    iexact Hy
  iintro ⟨Hb, Hh⟩
  ihave Hxy := (Entails.of_eq hres) $$ Hh
  icases Hxy with ⟨Hx, Hy⟩
  rw [wp_ret]; imodintro
  iapply Hk
  isplitl [Hb]; · iexact Hb
  isplitl [Hx]; · iexact Hx
  iexact Hy

/-! ## @main -/

/-- What @main leaves: the arguments as they were, the result at the looked-up values. -/
abbrev FIN (d : Dev nD) : sProp 𝕄 :=
  iprop((arg0Loc d ↦{fullShare} m (arg0Loc d)) ∗ (arg1Loc d ↦{fullShare} m (arg1Loc d)) ∗ (resLoc d ↦{fullShare} resOf m d))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Ha0, Ha1, Hix, Hcb, Hout, Hres⟩, Hts, -⟩, -⟩
  iapply (wp_reshape m d main_arg0 main_v0 rfl shapeCasts_S128x8192_S1048576 _ _ (by decide) _ _) $$ [Hb Ha0 Hix]
  · isplitl [Hb]; · iexact Hb
    isplitl [Ha0]; · iexact Ha0
    iexact Hix
  iintro ⟨Hb, Ha0, Hix⟩
  iapply (wp_reshape m d main_arg1 main_v1 rfl shapeCasts_S256x8_S2048 _ _ (by decide) _ _) $$ [Hb Ha1 Hcb]
  · isplitl [Hb]; · iexact Hb
    isplitl [Ha1]; · iexact Ha1
    iexact Hcb
  iintro ⟨Hb, Ha1, Hcb⟩
  iapply ((K (F := F)).wp_run (D (F := F)) 𝒱 (EH := EH) (P := P m) κ d 0) $$ [Hst Ha0 Ha1 Hix Hcb Hout Hres Hb Hts]
  isplitr; · iexact Hctx
  isplitl [Hst]; · iexact Hst
  isplitl [Hix Hcb Hout]
  · rw [st0_eq]
    isplitl [Hix]; · iexact Hix
    isplitl [Hcb]; · iexact Hcb
    iexact Hout
  iintro ⟨Hst, Hdn⟩
  ihave Hdn' := (Entails.of_eq (dn0_eq m d)) $$ Hdn
  icases Hdn' with ⟨-, -, Hout⟩
  iapply (wp_reshape m d main_v2 main_v3 rfl shapeCasts_S8388608_S128x8192x2x4 _ _ (by decide) _ _) $$ [Hb Hout Hres]
  · isplitl [Hb]; · iexact Hb
    isplitl [Hout]; · iexact Hout
    iexact Hres
  iintro ⟨Hb, -, Hres⟩
  imodintro
  isplitl [Hst]; · iexact Hst
  isplitr [Hb Hts]
  · isplitl [Ha0]; · iexact Ha0
    isplitl [Ha1]; · iexact Ha1
    iexact Hres
  isplitl [Hb] <;> iassumption

/-! ## The run -/

/-- What a final state shows of device `d`. -/
def fq (d : Dev nD) (s' : Phys nD τ sig (Elt F)) : Prop :=
  s'.mem.mem (arg0Loc d) = m (arg0Loc d) ∧ s'.mem.mem (arg1Loc d) = m (arg1Loc d) ∧ s'.mem.mem (resLoc d) = resOf m d

theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := arg0Loc d) (I := Finset.univ) (q := fullShare) (f := m (arg0Loc d)))) $$ [HSI H0]
  · isplitl [HSI] <;> iassumption
  icases H with ⟨%h0, HSI, -⟩
  ihave H := (persistent_entails_right (SI_pointsTo_agree (st := s') (ℓ := arg1Loc d) (I := Finset.univ) (q := fullShare) (f := m (arg1Loc d)))) $$ [HSI H1]
  · isplitl [HSI] <;> iassumption
  icases H with ⟨%h1, HSI, -⟩
  ihave H := (SI_pointsTo_agree (st := s') (ℓ := resLoc d) (I := Finset.univ) (q := fullShare) (f := resOf m d)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- What every execution ends with: on every device the arguments unchanged and the result at its values, and every semaphore at zero. -/
def QC : PUnit × MemSt nD τ sig (Elt F) → Prop := fun r =>
  (∀ d : Dev nD, r.2.mem (arg0Loc d) = m (arg0Loc d) ∧ r.2.mem (arg1Loc d) = m (arg1Loc d) ∧ r.2.mem (resLoc d) = resOf m d) ∧ r.2.sem = fun _ => 0

/-- Every weakly fair execution of the kernel's program terminates so, whenever every index word is below 256. -/
theorem run_main [∀ e, Nonempty (Elt F e)] (hix : ∀ d j, (ixOf m d j).toNat < 256) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hix facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Range.lean ====
/-
  What the precondition says: every index word, read as a natural number, is below 256.
-/
module

public import proofs.«01_k».proof.Proof.Gen.Pre_in_range
public import Idealize.ShloMosaic.Lib.ReduceAll
public import Idealize.ShloMosaic.Lib.WordCmp

@[expose] public section

noncomputable section

namespace Cert.Proof.Range

open Cert.Pre_in_range Cert.Pre_in_range.Gen
open Idealize.ShloMosaic Idealize.SL.Sem

/-- A bit made from a proposition is one exactly when the proposition holds. -/
theorem ofBool_one (p : Prop) [Decidable p] : BitVec.ofBool (decide p) = 1#1 ↔ p := by
  by_cases h : p <;> simp [h]

/-- A word that is at least 0 and below 256, both compared signed, is below 256 as a natural number. -/
theorem word_lt (w : BitVec 32) (h : IntOp.andi (IntOp.cmpi .sge w 0#32) (IntOp.cmpi .slt w 256#32) = 1#1) : w.toNat < 256 := by
  obtain ⟨h0, h1⟩ := IntOp.andi_eq_one.1 h
  rw [WordCmp.cmpi_sge_zero] at h0
  have hw : w.toNat < 2 ^ 31 := (ofBool_one _).1 h0
  rw [WordCmp.cmpi_slt_of_lt hw (by decide)] at h1
  exact (ofBool_one _).1 h1

/-- The precondition's one output has one element. -/
instance : Subsingleton S_.Idx := ⟨fun x y => funext fun a => a.elim0⟩

/-- If the precondition's conjunction over all indices is one, then every index word is below 256. -/
theorem all_lt {F : FTy → Type} [FloatOps F] (ix : IVec S128x8192 32) (cb : FVec F S256x8 .f32)
    (h : Cert.Pre_in_range.fn (F := F) ix cb = fun _ => 1#1) (j : S128x8192.Idx) : (ix j).toNat < 256 := by
  have e := congrFun h (fun a => a.elim0)
  unfold Cert.Pre_in_range.fn at e
  exact word_lt (ix j) (Host.reduce_andi_all _ _ _ _ _ e j)

end Cert.Proof.Range

end
-- ==== Proof.Rows.lean ====
/-
  The reference's table lookup, read as a function of its arguments. When every index word is below 256, no index is
  negative and none is past the table's end, so nothing is wrapped and nothing is filled: element `(a, b, c)` of the
  lookup is column `c` of the table's row `ix (a, b)`.
-/
module

public import proofs.«01_k».proof.Proof.Gen.ReferenceIdeal
public import Idealize.ShloMosaic.Lib.ReduceAll
public import Idealize.ShloMosaic.Lib.WordCmp
public import Idealize.ShloMosaic.Lib.Pipeline.Value

@[expose] public section

noncomputable section

namespace Cert.Proof.Rows

open Cert.ReferenceIdeal Cert.ReferenceIdeal.Gen
open Idealize.ShloMosaic Idealize.SL.Sem

/-- The index array's position `(a, b)` of the looked-up position `(a, b, c)`. -/
def who (y : S128x8192x8.Idx) : S128x8192.Idx := fun a => match a with
  | 0 => y 0
  | 1 => y 1

/-- Row `n`, column `c` of the table. -/
def cell (n : Fin 256) (c : Fin 8) : S256x8.Idx := fun a => match a with
  | 0 => n
  | 1 => c

/-- The index array with a trailing axis of size one, at a position: the array at that position's first two coordinates. -/
def lead (z : S128x8192x1.Idx) : S128x8192.Idx := fun a => match a with
  | 0 => z 0
  | 1 => z 1

/-- A word below 256 is not negative, so the wrap of negative indices leaves it alone. -/
theorem wrap_word (w : BitVec 32) (hw : w.toNat < 256) :
    Scalar.select (IntOp.cmpi .slt w 0#32) (IntOp.addi w 256#32) w = w := by
  have h : IntOp.cmpi .slt w 0#32 = 0#1 := by
    rw [WordCmp.cmpi_slt_of_lt (show w.toNat < 2 ^ (32 - 1) by omega) (by decide)]
    simp
  rw [h]
  rfl

/-- A word below 256 passes the test for lying between 0 and 255. -/
theorem inside_word (w : BitVec 32) (hw : w.toNat < 256) :
    IntOp.andi (IntOp.cmpi .sge w 0#32) (IntOp.cmpi .sle w 255#32) = 1#1 := by
  rw [WordCmp.cmpi_sge_of_lt (show w.toNat < 2 ^ (32 - 1) by omega) (by decide),
    WordCmp.cmpi_sle_of_lt (show w.toNat < 2 ^ (32 - 1) by omega) (by decide)]
  have h : w.toNat ≤ (255#32).toNat := by
    show w.toNat ≤ 255
    omega
  have h' : (0#32).toNat ≤ w.toNat := Nat.zero_le _
  simp only [h, h', decide_true]
  rfl

/-- A word below 256 is the same number read signed. -/
theorem signed_word (w : BitVec 32) (hw : w.toNat < 256) : w.toInt.toNat = w.toNat := by
  rw [BitVec.toInt_eq_toNat_of_lt (by omega)]
  rfl

/-- The gather at `(a, b, c)`: column `c` of the row the start index at `(a, b)` names, when that index is below 256. -/
theorem gather_cell {α : Type} (x : S256x8.Idx → α) (idx : IVec S128x8192x1 32) (y : S128x8192x8.Idx)
    (w : BitVec 32) (hw : w.toNat < 256) (h : ∀ z, lead z = who y → idx z = w) :
    Host.gather gather_S256x8_S128x8192x1_S128x8192x8_2_0_n_n_0_2_18 x idx y = x (cell ⟨w.toNat, hw⟩ (y 2)) := by
  unfold Host.gather
  refine congrArg x (funext fun a => Fin.ext ?_)
  match a with
  | 0 =>
    show GatherDims.start _ y idx 0 + GatherDims.batchCoord _ y 0 + GatherDims.offCoord _ y 0 = w.toNat
    rw [GatherDims.batchCoord_eq_zero _ _ _ List.not_mem_nil,
      GatherDims.offCoord_eq_zero _ _ _ (fun k => ((GatherDims.mem_sKept _ _).1 k).1 (List.mem_singleton.2 rfl))]
    unfold GatherDims.start
    rw [dif_pos (show (0 : Fin 2) ∈ gather_S256x8_S128x8192x1_S128x8192x8_2_0_n_n_0_2_18.startIndexMap from List.mem_singleton.2 rfl),
      h _ (by
        funext b
        match b with
        | 0 => rfl
        | 1 => rfl), signed_word w hw]
    show min w.toNat 255 + 0 + 0 = w.toNat
    omega
  | 1 =>
    show GatherDims.start _ y idx 1 + GatherDims.batchCoord _ y 1 + GatherDims.offCoord _ y 1 = (y 2).val
    rw [GatherDims.batchCoord_eq_zero _ _ _ List.not_mem_nil]
    unfold GatherDims.start
    rw [dif_neg (show (1 : Fin 2) ∉ gather_S256x8_S128x8192x1_S128x8192x8_2_0_n_n_0_2_18.startIndexMap from fun k => absurd (List.mem_singleton.1 k) (by decide))]
    show 0 + 0 + (y 2).val = (y 2).val
    omega

variable {F : FTy → Type} [FloatOps F]

/-- The indices as the gather takes them: negative ones wrapped, then a trailing axis of size one. -/
def starts (ix : IVec S128x8192 32) : IVec S128x8192x1 32 :=
  broadcastInDim S128x8192x1 ![0, 1] bcast_S128x8192_S128x8192x1_0_1
    (select (cmpi .slt ix (broadcastInDim S128x8192 ![] bcast_S_S128x8192 (constantI S_ 32 0#32)))
      (addi ix (broadcastInDim S128x8192 ![] bcast_S_S128x8192 (constantI S_ 32 256#32))) ix)

/-- With every word below 256, the gather's start at a position is the index word at its first two coordinates. -/
theorem starts_eq (ix : IVec S128x8192 32) (hix : ∀ j, (ix j).toNat < 256) (z : S128x8192x1.Idx) :
    starts ix z = ix (lead z) := by
  unfold starts
  rw [broadcastInDim_apply _ _ _ z (lead z) (fun a => by
    match a with
    | 0 => rfl
    | 1 => rfl)]
  exact wrap_word (ix (lead z)) (hix (lead z))

/-- Where the reference keeps the looked-up value: the indices inside the table. -/
def inside (ix : IVec S128x8192 32) : IVec S128x8192 1 :=
  Host.reduce IntOp.andi
    (andi (cmpi .sge (starts ix) (broadcastInDim S128x8192x1 ![] bcast_S_S128x8192x1 (constantI S_ 32 0#32)))
      (cmpi .sle (starts ix) (broadcastInDim S128x8192x1 ![0, 1, 2] bcast_S1x1x1_S128x8192x1_0_1_2
        (broadcastInDim S1x1x1 ![2] bcast_S1_S1x1x1_2 (constantI S1 32 255#32)))))
    (constantI S_ 1 1#1) reducesTo_S128x8192x1_S128x8192_d2 h_S_

/-- With every word below 256, that is everywhere. -/
theorem inside_eq (ix : IVec S128x8192 32) (hix : ∀ j, (ix j).toNat < 256) (j : S128x8192.Idx) : inside ix j = 1#1 := by
  have hz : ∀ z, andi (cmpi .sge (starts ix) (broadcastInDim S128x8192x1 ![] bcast_S_S128x8192x1 (constantI S_ 32 0#32)))
      (cmpi .sle (starts ix) (broadcastInDim S128x8192x1 ![0, 1, 2] bcast_S1x1x1_S128x8192x1_0_1_2
        (broadcastInDim S1x1x1 ![2] bcast_S1_S1x1x1_2 (constantI S1 32 255#32)))) z = 1#1 := by
    intro z
    show IntOp.andi (IntOp.cmpi .sge (starts ix z) 0#32) (IntOp.cmpi .sle (starts ix z) 255#32) = 1#1
    rw [starts_eq ix hix]
    exact inside_word _ (hix _)
  have hi : constantI S_ 1 1#1 (Shape.Idx.first h_S_) = 1#1 := rfl
  have e := Host.reduce_andi_one _ _ reducesTo_S128x8192x1_S128x8192_d2 h_S_ j hi hz
  unfold inside
  exact e

/-- A selection at a position where the condition is one is the first value there. -/
theorem select_at {α : Type} {s : Shape} (c : IVec s 1) (a b : s.Idx → α) (y : s.Idx) (h : c y = 1#1) : select c a b y = a y := by
  unfold select
  rw [h]
  rfl

/-- The reference's lookup, before its last reshape, as its operations compose. -/
def looked (ix : IVec S128x8192 32) (cb : FVec F S256x8 .f32) : FVec F S128x8192x8 .f32 :=
  select (broadcastInDim S128x8192x8 ![0, 1] bcast_S128x8192_S128x8192x8_0_1 (inside ix))
    (Host.gather gather_S256x8_S128x8192x1_S128x8192x8_2_0_n_n_0_2_18 cb (starts ix))
    (broadcastInDim S128x8192x8 ![] bcast_S_S128x8192x8 (constant S_ .f32 0x7FC00000#32))

/-- With every word below 256, the lookup at `(a, b, c)` is column `c` of row `ix (a, b)`. -/
theorem looked_eq (ix : IVec S128x8192 32) (cb : FVec F S256x8 .f32) (hix : ∀ j, (ix j).toNat < 256) (y : S128x8192x8.Idx) :
    looked ix cb y = cb (cell ⟨(ix (who y)).toNat, hix (who y)⟩ (y 2)) := by
  have hk : broadcastInDim S128x8192x8 ![0, 1] bcast_S128x8192_S128x8192x8_0_1 (inside ix) y = 1#1 :=
    inside_eq ix hix _
  unfold looked
  exact (select_at _ _ _ y hk).trans
    (gather_cell cb (starts ix) y (ix (who y)) (hix (who y)) (fun z hz => by rw [starts_eq ix hix, hz]))

end Cert.Proof.Rows

end
-- ==== Proof.Equation.lean ====
/-
  The kernel's result and the reference's, as functions of the same arguments, are equal. Both are rearrangements that
  keep row-major position, so each element is compared through that one number.
-/
module

public import proofs.«01_k».proof.Proof.Words
public import proofs.«01_k».proof.Proof.Rows

@[expose] public section

noncomputable section

namespace Cert.Proof.Equation

open Cert.KernelIdeal Cert.KernelIdeal.Gen
open Idealize.ShloMosaic Idealize.SL.Sem
open Cert.Proof.Lookup Cert.Proof.Rows

/-- Row-major position in a flat array is the coordinate. -/
theorem rank_flat {N : ℕ} (x : (⟨1, ![N]⟩ : Shape).Idx) : ((⟨1, ![N]⟩ : Shape).rowMajor x).val = (x 0).val :=
  Shape.rowMajor_val_one x

/-- Row-major position in the table. -/
theorem rank_table (x : S256x8.Idx) : (S256x8.rowMajor x).val = (x 0).val * 8 + (x 1).val := Shape.rowMajor_val_two x

/-- Row-major position in the index array. -/
theorem rank_index (x : S128x8192.Idx) : (S128x8192.rowMajor x).val = (x 0).val * 8192 + (x 1).val := Shape.rowMajor_val_two x

/-- Row-major position in the looked-up rows. -/
theorem rank_looked (x : Cert.ReferenceIdeal.S128x8192x8.Idx) :
    (Cert.ReferenceIdeal.S128x8192x8.rowMajor x).val = ((x 0).val * 8192 + (x 1).val) * 8 + (x 2).val := Shape.rowMajor_val_three x

variable {F : FTy → Type} [FloatOps F]

/-- An element of a reshaped array is the array's element at the same row-major position. -/
theorem cast_at {α : Type} {s t : Shape} (x : s.Idx → α) (h : s.ShapeCasts t) (j : t.Idx) (i : s.Idx)
    (hi : (s.rowMajor i).val = (t.rowMajor j).val) : shapeCast t x h j = x i := by
  unfold shapeCast
  rw [Shape.reshapeEquiv_eq_of_rowMajor _ hi]

/-- The kernel's flat output at position `n` and the looked-up rows at the position of the same row-major number. -/
theorem flat_looked (ix : IVec S128x8192 32) (cb : FVec F S256x8 .f32) (hix : ∀ j, (ix j).toNat < 256)
    (x : S8388608.Idx) (y : Cert.ReferenceIdeal.S128x8192x8.Idx)
    (hxy : (x 0).val = ((y 0).val * 8192 + (y 1).val) * 8 + (y 2).val) :
    flatVal (F := F) (shapeCast S2048 cb shapeCasts_S256x8_S2048) (shapeCast S1048576 ix shapeCasts_S128x8192_S1048576) x
      = looked (F := F) ix cb y := by
  have h2 : (y 2).val < 8 := (y 2).isLt
  have hw := hix (who y)
  rw [looked_eq ix cb hix y]
  unfold flatVal
  have hi : shapeCast S1048576 ix shapeCasts_S128x8192_S1048576
      (pos ⟨(x 0).val / 8, by have h : (x 0).val < 8388608 := (x 0).isLt; omega⟩) = ix (who y) :=
    cast_at ix _ _ (who y) (by
      rw [rank_flat, rank_index]
      show (y 0).val * 8192 + (y 1).val = (x 0).val / 8
      omega)
  rw [hi]
  refine cast_at cb _ _ _ ?_
  rw [rank_flat, rank_table]
  show (ix (who y)).toNat * 8 + (y 2).val = (8 * (ix (who y)).toNat + (x 0).val % 8) % 2048
  omega

/-- The kernel's result, as a function of the two arguments, is the reference's. -/
theorem value_eq (ix : IVec S128x8192 32) (cb : FVec F S256x8 .f32) (hix : ∀ j, (ix j).toNat < 256) :
    shapeCast S128x8192x2x4 (flatVal (F := F) (shapeCast S2048 cb shapeCasts_S256x8_S2048)
        (shapeCast S1048576 ix shapeCasts_S128x8192_S1048576)) shapeCasts_S8388608_S128x8192x2x4
      = shapeCast S128x8192x2x4 (looked (F := F) ix cb) Cert.ReferenceIdeal.Gen.shapeCasts_S128x8192x8_S128x8192x2x4 := by
  funext j
  refine flat_looked ix cb hix _ _ ?_
  rw [← rank_looked, ← rank_flat, Shape.rowMajor_reshapeEquiv, Shape.rowMajor_reshapeEquiv]

end Cert.Proof.Equation

end
-- ==== Proof.Claims.lean ====
/-
  The claims, one theorem each. The kernel's program has the same text read at machine words and read at extended
  reals, so one run, proved over any float values, gives both of its frames.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Range
public import proofs.«01_k».proof.Proof.Equation

@[expose] public section

noncomputable section

namespace Cert.Proof.Claims

open Idealize.ShloMosaic Idealize.SL.Sem
open Cert.Proof.Lookup

/-- The program as printed terminates on every execution, faults nowhere, keeps its arguments and leaves every
    semaphore at zero, whenever every index is a row of the codebook. -/
theorem frame_kernel : Cert.quiescent_Kernel := fun m ρ hpre =>
  (θ_run (Cert.KernelIdeal.defs (F := Bits)) _ _).mono (fun _ h => ⟨fun d => ⟨(h.1 d).1, (h.1 d).2.1⟩, h.2⟩)
    (run_main (F := Bits) m ρ fun d j => Range.all_lt (F := Bits) _ _ (hpre d) (Shape.reshapeEquiv _ j))

/-- So does the same program over extended reals. -/
theorem frame_ideal : Cert.quiescent_KernelIdeal := fun m ρ hpre =>
  (θ_run (Cert.KernelIdeal.defs (F := Ideal)) _ _).mono (fun _ h => ⟨fun d => ⟨(h.1 d).1, (h.1 d).2.1⟩, h.2⟩)
    (run_main (F := Ideal) m ρ fun d j => Range.all_lt (F := Ideal) _ _ (hpre d) (Shape.reshapeEquiv _ j))

/-- The reference terminates on every execution, keeps its arguments and leaves every semaphore at zero: it declares
    none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In particular where every index is a row of the codebook. -/
theorem frame_reference_in_range : Cert.quiescent_ReferenceIdeal_pre_in_range := fun m ρ _ => frame_reference m ρ trivial

/-- From the same arguments, with every index a row of the codebook, the kernel and the reference end with equal
    results: the codebook's rows at the indices. -/
theorem algebraic : Cert.algebraic_KernelIdeal_ReferenceIdeal := by
  intro m ρ m' ρ' hpre hag
  have hix : ∀ (d : Dev Cert.KernelIdeal.nD) (j : Cert.KernelIdeal.S128x8192.Idx),
      ((m (arg0Loc d) : Cert.KernelIdeal.S128x8192.Idx → BitVec 32) j).toNat < 256 :=
    fun d j => Range.all_lt (F := Ideal) _ _ (hpre d) j
  refine ⟨fun d => resOf m d, ?_, ?_⟩
  · exact (θ_run (Cert.KernelIdeal.defs (F := Ideal)) _ _).mono (fun _ h d => ⟨(h.1 d).2.2, (h.1 d).1, (h.1 d).2.1⟩)
      (run_main (F := Ideal) m ρ fun d j => hix d (Shape.reshapeEquiv _ j))
  · refine (θ_run Cert.ReferenceIdeal.defs _ _).mono (fun r h d => ⟨(h d).1.trans ?_, (h d).2⟩)
      (Cert.ReferenceIdeal.Value.run (F := Ideal) m' ρ')
    rw [(hag d).1, (hag d).2]
    exact (Equation.value_eq (F := Ideal) (m (arg0Loc d)) (m (arg1Loc d)) (hix d)).symm

end Cert.Proof.Claims

end
-- ==== Proof.lean ====
/-
  The certificate's claim. The two kernel frames and the equation are from `Proof/Claims.lean`; the idealized program
  is the printed one with no operation replaced, so there is nothing to show for it.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Claims

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts, Cert.Pre_in_range.Gen.facts,
    Claims.frame_kernel, Claims.frame_ideal, Claims.frame_reference, Claims.frame_reference_in_range, trivial,
    Claims.algebraic⟩

end Cert.Proof

end
